-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S8x256x24x24 : Shape := ⟨4, ![8, 256, 24, 24]⟩
abbrev S1024x256 : Shape := ⟨2, ![1024, 256]⟩
abbrev S_ : Shape := ⟨0, ![]⟩
abbrev S8x24x24x256 : Shape := ⟨4, ![8, 24, 24, 256]⟩
abbrev S4608x256 : Shape := ⟨2, ![4608, 256]⟩
abbrev S4608 : Shape := ⟨1, ![4608]⟩
abbrev S4608x1 : Shape := ⟨2, ![4608, 1]⟩
abbrev S256x1024 : Shape := ⟨2, ![256, 1024]⟩
abbrev S4608x1024 : Shape := ⟨2, ![4608, 1024]⟩
abbrev S1024 : Shape := ⟨1, ![1024]⟩
abbrev S1x1024 : Shape := ⟨2, ![1, 1024]⟩

class Facts : Prop where
  bcast_S_S8x256x24x24 : S_.BroadcastsInDim S8x256x24x24 (![] : Fin 0 → Fin S8x256x24x24.rank)
  reducesTo_S8x256x24x24_S_d0_1_2_3 : S8x256x24x24.ReducesTo [0, 1, 2, 3] S_
  h_S_ : 0 < S_.numel
  bcast_S_S1024x256 : S_.BroadcastsInDim S1024x256 (![] : Fin 0 → Fin S1024x256.rank)
  reducesTo_S1024x256_S_d0_1 : S1024x256.ReducesTo [0, 1] S_
  transposes_S8x256x24x24_S8x24x24x256_0_2_3_1 : S8x256x24x24.Transposes [0, 2, 3, 1] S8x24x24x256
  shapeCasts_S8x24x24x256_S4608x256 : S8x24x24x256.ShapeCasts S4608x256
  reducesTo_S4608x256_S4608_d1 : S4608x256.ReducesTo [1] S4608
  bcast_S4608_S4608x1_0 : S4608.BroadcastsInDim S4608x1 (![0] : Fin 1 → Fin S4608x1.rank)
  bcast_S_S4608x256 : S_.BroadcastsInDim S4608x256 (![] : Fin 0 → Fin S4608x256.rank)
  transposes_S1024x256_S256x1024_1_0 : S1024x256.Transposes [1, 0] S256x1024
  bcast_S4608x1_S4608x1024_0_1 : S4608x1.BroadcastsInDim S4608x1024 (![0, 1] : Fin 2 → Fin S4608x1024.rank)
  reducesTo_S1024x256_S1024_d1 : S1024x256.ReducesTo [1] S1024
  bcast_S1024_S1x1024_1 : S1024.BroadcastsInDim S1x1024 (![1] : Fin 1 → Fin S1x1024.rank)
  bcast_S1x1024_S4608x1024_0_1 : S1x1024.BroadcastsInDim S4608x1024 (![0, 1] : Fin 2 → Fin S4608x1024.rank)
  reducesTo_S4608x1024_S4608_d1 : S4608x1024.ReducesTo [1] S4608
  natLt_1_32 : 1 < 32
  bcast_S_S4608 : S_.BroadcastsInDim S4608 (![] : Fin 0 → Fin S4608.rank)
  reducesTo_S4608_S_d0 : S4608.ReducesTo [0] S_
  dot_S4608x256_S256x1024_S4608x1024_1_0_0_1_n_n_wf : DotDims.WF S4608x256 S256x1024 S4608x1024 [1] [0] [0] [1] [] []

variable [Facts]

def dot_S4608x256_S256x1024_S4608x1024_1_0_0_1_n_n : DotDims S4608x256 S256x1024 S4608x1024 where
  lhsContracting := [1]
  rhsContracting := [0]
  lhsNonContracting := [0]
  rhsNonContracting := [1]
  lhsBatch := []
  rhsBatch := []
  wf := dot_S4608x256_S256x1024_S4608x1024_1_0_0_1_n_n_wf
def fn_part1 {F : FTy → Type} [FloatOps F] (main_arg1 : FVec F S1024x256 .f32) (main_v8 : IVec S_ 1) (main_v13 : FVec F S4608x1 .f32) (main_v17 : FVec F S4608x1024 .f32) : IVec S_ 1 :=
  let main_v18 : FVec F S4608x1024 .f32 := broadcastInDim S4608x1024 ![0, 1] bcast_S4608x1_S4608x1024_0_1 main_v13
  let main_v19 : FVec F S4608x1024 .f32 := subf main_v18 main_v17
  let main_v20 : FVec F S1024x256 .f32 := mulf main_arg1 main_arg1
  let main_cst_4 : FVec F S_ .f32 := constant S_ .f32 0x00000000#32
  let main_v21 : FVec F S1024 .f32 := (fun x v => Host.reduceAdd x v reducesTo_S1024x256_S1024_d1 h_S_) main_v20 main_cst_4
  let main_v22 : FVec F S1x1024 .f32 := broadcastInDim S1x1024 ![1] bcast_S1024_S1x1024_1 main_v21
  let main_v23 : FVec F S4608x1024 .f32 := broadcastInDim S4608x1024 ![0, 1] bcast_S1x1024_S4608x1024_0_1 main_v22
  let main_v24 : FVec F S4608x1024 .f32 := addf main_v19 main_v23
  let main_cst_5 : FVec F S_ .f32 := constant S_ .f32 0x7F800000#32
  let main_v25 : FVec F S4608 .f32 := (fun x v => Host.reduce FloatOps.minimumf x v reducesTo_S4608x1024_S4608_d1 h_S_) main_v24 main_cst_5
  let main_v26 : FVec F S4608x1 .f32 := broadcastInDim S4608x1 ![0] bcast_S4608_S4608x1_0 main_v25
  let main_v27 : FVec F S4608x1024 .f32 := broadcastInDim S4608x1024 ![0, 1] bcast_S4608x1_S4608x1024_0_1 main_v26
  let main_v28 : IVec S4608x1024 1 := cmpf .oeq main_v24 main_v27
  let main_v29 : IVec S4608x1024 32 := (extui 32 · natLt_1_32) main_v28
  let main_c_6 : IVec S_ 32 := constantI S_ 32 0#32
  let main_v30 : IVec S4608 32 := (fun x v => Host.reduce IntOp.addi x v reducesTo_S4608x1024_S4608_d1 h_S_) main_v29 main_c_6
  let main_c_7 : IVec S_ 32 := constantI S_ 32 1#32
  let main_v31 : IVec S4608 32 := broadcastInDim S4608 ![] bcast_S_S4608 main_c_7
  let main_v32 : IVec S4608 1 := cmpi .eq main_v30 main_v31
  let main_c_8 : IVec S_ 1 := constantI S_ 1 1#1
  let main_v33 : IVec S_ 1 := (fun x v => Host.reduce IntOp.andi x v reducesTo_S4608_S_d0 h_S_) main_v32 main_c_8
  let main_v34 : IVec S_ 1 := andi main_v8 main_v33
  main_v34

def fn {F : FTy → Type} [FloatOps F] (main_arg0 : FVec F S8x256x24x24 .f32) (main_arg1 : FVec F S1024x256 .f32) : IVec S_ 1 :=
  let main_v0 : FVec F S8x256x24x24 .f32 := Host.absf main_arg0
  let main_cst : FVec F S_ .f32 := constant S_ .f32 0x7F800000#32
  let main_v1 : FVec F S8x256x24x24 .f32 := broadcastInDim S8x256x24x24 ![] bcast_S_S8x256x24x24 main_cst
  let main_v2 : IVec S8x256x24x24 1 := cmpf .olt main_v0 main_v1
  let main_c : IVec S_ 1 := constantI S_ 1 1#1
  let main_v3 : IVec S_ 1 := (fun x v => Host.reduce IntOp.andi x v reducesTo_S8x256x24x24_S_d0_1_2_3 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S8x24x24x256 .f32 := (transpose S8x24x24x256 [0, 2, 3, 1] · transposes_S8x256x24x24_S8x24x24x256_0_2_3_1) main_arg0
  let main_v10 : FVec F S4608x256 .f32 := shapeCast S4608x256 main_v9 shapeCasts_S8x24x24x256_S4608x256
  let main_v11 : FVec F S4608x256 .f32 := mulf main_v10 main_v10
  let main_cst_2 : FVec F S_ .f32 := constant S_ .f32 0x00000000#32
  let main_v12 : FVec F S4608 .f32 := (fun x v => Host.reduceAdd x v reducesTo_S4608x256_S4608_d1 h_S_) main_v11 main_cst_2
  let main_v13 : FVec F S4608x1 .f32 := broadcastInDim S4608x1 ![0] bcast_S4608_S4608x1_0 main_v12
  let main_cst_3 : FVec F S_ .f32 := constant S_ .f32 0x40000000#32
  let main_v14 : FVec F S4608x256 .f32 := broadcastInDim S4608x256 ![] bcast_S_S4608x256 main_cst_3
  let main_v15 : FVec F S4608x256 .f32 := mulf main_v14 main_v10
  let main_v16 : FVec F S256x1024 .f32 := (transpose S256x1024 [1, 0] · transposes_S1024x256_S256x1024_1_0) main_arg1
  let main_v17 : FVec F S4608x1024 .f32 := (fun l r => Host.dotGeneral dot_S4608x256_S256x1024_S4608x1024_1_0_0_1_n_n none l r) main_v15 main_v16
  fn_part1 (F := F) main_arg1 main_v8 main_v13 main_v17
-- ==== Kernel.lean ====
abbrev S8x256x24x24 : Shape := ⟨4, ![8, 256, 24, 24]⟩
abbrev S1024x256 : Shape := ⟨2, ![1024, 256]⟩
abbrev S8x24x24x256 : Shape := ⟨4, ![8, 24, 24, 256]⟩
abbrev S4608x256 : Shape := ⟨2, ![4608, 256]⟩
abbrev S1x4608 : Shape := ⟨2, ![1, 4608]⟩
abbrev S1x1 : Shape := ⟨2, ![1, 1]⟩
abbrev S1024 : Shape := ⟨1, ![1024]⟩
abbrev S1024x1 : Shape := ⟨2, ![1024, 1]⟩
abbrev S1x1024 : Shape := ⟨2, ![1, 1024]⟩
abbrev S2x1024 : Shape := ⟨2, ![2, 1024]⟩
abbrev S1536x1024 : Shape := ⟨2, ![1536, 1024]⟩
abbrev S1536x256 : Shape := ⟨2, ![1536, 256]⟩
abbrev S1536 : Shape := ⟨1, ![1536]⟩
abbrev S1536x1 : Shape := ⟨2, ![1536, 1]⟩
abbrev S2x1536 : Shape := ⟨2, ![2, 1536]⟩
abbrev S1x1536 : Shape := ⟨2, ![1, 1536]⟩
abbrev S1x1536x256 : Shape := ⟨3, ![1, 1536, 256]⟩
abbrev S1 : Shape := ⟨1, ![1]⟩
abbrev S1x1x1 : Shape := ⟨3, ![1, 1, 1]⟩
abbrev S4608 : Shape := ⟨1, ![4608]⟩
abbrev S_ : Shape := ⟨0, ![]⟩

abbrev nBuf : Space → Nat
  | .hbm => 11
  | .vmem => 5
  | .smem => 0
  | _ => 0

abbrev bufTy : (tb : Table) → Fin (tcTables nBuf tb) → BufTy
  | .hbm, ⟨0, _⟩ => ⟨S8x256x24x24, .f32⟩
  | .hbm, ⟨1, _⟩ => ⟨S1024x256, .f32⟩
  | .hbm, ⟨2, _⟩ => ⟨S8x24x24x256, .f32⟩
  | .hbm, ⟨3, _⟩ => ⟨S4608x256, .f32⟩
  | .hbm, ⟨4, _⟩ => ⟨S4608x256, .f32⟩
  | .hbm, ⟨5, _⟩ => ⟨S1x4608, .i32⟩
  | .hbm, ⟨6, _⟩ => ⟨S1x1, .f32⟩
  | .hbm, ⟨7, _⟩ => ⟨S8x24x24x256, .f32⟩
  | .hbm, ⟨8, _⟩ => ⟨S8x256x24x24, .f32⟩
  | .hbm, ⟨9, _⟩ => ⟨S4608, .i32⟩
  | .hbm, ⟨10, _⟩ => ⟨S_, .f32⟩
  | .local _ .vmem, ⟨0, _⟩ => ⟨S4608x256, .f32⟩
  | .local _ .vmem, ⟨1, _⟩ => ⟨S1024x256, .f32⟩
  | .local _ .vmem, ⟨2, _⟩ => ⟨S4608x256, .f32⟩
  | .local _ .vmem, ⟨3, _⟩ => ⟨S1x4608, .i32⟩
  | .local _ .vmem, ⟨4, _⟩ => ⟨S1x1, .f32⟩
  | _, _ => ⟨S8x256x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4608x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4608x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4608 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8x256x24x24 : Shape := ⟨4, ![8, 256, 24, 24]⟩
abbrev S1024x256 : Shape := ⟨2, ![1024, 256]⟩
abbrev S8x24x24x256 : Shape := ⟨4, ![8, 24, 24, 256]⟩
abbrev S4608x256 : Shape := ⟨2, ![4608, 256]⟩
abbrev S_ : Shape := ⟨0, ![]⟩
abbrev S4608 : Shape := ⟨1, ![4608]⟩
abbrev S4608x1 : Shape := ⟨2, ![4608, 1]⟩
abbrev S256x1024 : Shape := ⟨2, ![256, 1024]⟩
abbrev S4608x1024 : Shape := ⟨2, ![4608, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S8x256x24x24, .f32⟩
  | .hbm, ⟨1, _⟩ => ⟨S1024x256, .f32⟩
  | .hbm, ⟨2, _⟩ => ⟨S8x24x24x256, .f32⟩
  | .hbm, ⟨3, _⟩ => ⟨S4608x256, .f32⟩
  | .hbm, ⟨4, _⟩ => ⟨S4608x256, .f32⟩
  | .hbm, ⟨5, _⟩ => ⟨S_, .f32⟩
  | .hbm, ⟨6, _⟩ => ⟨S4608, .f32⟩
  | .hbm, ⟨7, _⟩ => ⟨S4608x1, .f32⟩
  | .hbm, ⟨8, _⟩ => ⟨S_, .f32⟩
  | .hbm, ⟨9, _⟩ => ⟨S4608x256, .f32⟩
  | .hbm, ⟨10, _⟩ => ⟨S4608x256, .f32⟩
  | .hbm, ⟨11, _⟩ => ⟨S256x1024, .f32⟩
  | .hbm, ⟨12, _⟩ => ⟨S4608x1024, .f32⟩
  | .hbm, ⟨13, _⟩ => ⟨S4608x1024, .f32⟩
  | .hbm, ⟨14, _⟩ => ⟨S4608x1024, .f32⟩
  | .hbm, ⟨15, _⟩ => ⟨S1024x256, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S4608x1024, .f32⟩
  | .hbm, ⟨20, _⟩ => ⟨S4608x1024, .f32⟩
  | .hbm, ⟨21, _⟩ => ⟨S4608x1024, .i32⟩
  | .hbm, ⟨22, _⟩ => ⟨S_, .f32⟩
  | .hbm, ⟨23, _⟩ => ⟨S_, .i32⟩
  | .hbm, ⟨24, _⟩ => ⟨S4608, .f32⟩
  | .hbm, ⟨25, _⟩ => ⟨S4608, .i32⟩
  | .hbm, ⟨26, _⟩ => ⟨S_, .i32⟩
  | .hbm, ⟨27, _⟩ => ⟨S4608, .i32⟩
  | .hbm, ⟨28, _⟩ => ⟨S4608, .i1⟩
  | .hbm, ⟨29, _⟩ => ⟨S_, .i32⟩
  | .hbm, ⟨30, _⟩ => ⟨S4608, .i32⟩
  | .hbm, ⟨31, _⟩ => ⟨S4608, .i32⟩
  | .hbm, ⟨32, _⟩ => ⟨S4608, .i32⟩
  | .hbm, ⟨33, _⟩ => ⟨S4608x1, .i32⟩
  | .hbm, ⟨34, _⟩ => ⟨S1, .i32⟩
  | .hbm, ⟨35, _⟩ => ⟨S_, .i32⟩
  | .hbm, ⟨36, _⟩ => ⟨S4608x1, .i32⟩
  | .hbm, ⟨37, _⟩ => ⟨S4608x1, .i1⟩
  | .hbm, ⟨38, _⟩ => ⟨S1x1, .i32⟩
  | .hbm, ⟨39, _⟩ => ⟨S4608x1, .i32⟩
  | .hbm, ⟨40, _⟩ => ⟨S4608x1, .i1⟩
  | .hbm, ⟨41, _⟩ => ⟨S4608x1, .i1⟩
  | .hbm, ⟨42, _⟩ => ⟨S_, .i1⟩
  | .hbm, ⟨43, _⟩ => ⟨S4608, .i1⟩
  | .hbm, ⟨44, _⟩ => ⟨S4608x256, .f32⟩
  | .hbm, ⟨45, _⟩ => ⟨S4608x256, .i1⟩
  | .hbm, ⟨46, _⟩ => ⟨S_, .f32⟩
  | .hbm, ⟨47, _⟩ => ⟨S4608x256, .f32⟩
  | .hbm, ⟨48, _⟩ => ⟨S4608x256, .f32⟩
  | .hbm, ⟨49, _⟩ => ⟨S8x24x24x256, .f32⟩
  | .hbm, ⟨50, _⟩ => ⟨S8x256x24x24, .f32⟩
  | .hbm, ⟨51, _⟩ => ⟨S8x256x24x24, .f32⟩
  | .hbm, ⟨52, _⟩ => ⟨S8x256x24x24, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8x256x24x24, .f32⟩
  | .hbm, ⟨60, _⟩ => ⟨S8x256x24x24, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S8x256x24x24, .f32⟩
  | .hbm, ⟨67, _⟩ => ⟨S8x256x24x24, .f32⟩
  | _, _ => ⟨S8x256x24x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_2 : Ref sig .tc := ⟨.hbm, 53, rfl⟩
abbrev main_v22 : Ref sig .tc := ⟨.hbm, 54, rfl⟩
abbrev main_cst_3 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_5 : Ref sig .tc := ⟨.hbm, 61, rfl⟩
abbrev main_v27 : Ref sig .tc := ⟨.hbm, 62, rfl⟩
abbrev main_cst_6 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩

abbrev nD : Nat := 1
abbrev τ : Topo := Topo.v7x

variable {F : FTy → Type} [FloatOps F]
-- ==== Proof.Nearest.lean ====
/-
  The nearest code's number, as a plain function of the distances, and the two ways in which the programs find it:
  the kernel's `tpu.reduce_index` and the reference's two-operand reduction.
-/
module

public import proofs.«01_k».proof.KernelIdeal
public import proofs.«01_k».proof.ReferenceIdeal
public import Idealize.ShloMosaic.PureOps.Ideal
public import Idealize.ShloMosaic.PureOps.Ideal.Laws
public import Idealize.ShloMosaic.Lib.Pointwise

@[expose] public section

set_option maxRecDepth 16384

noncomputable section

namespace Cert.VQ

open Idealize.ShloMosaic

/-- Some position of a list of 1024 extended reals holds the least of them. -/
theorem exists_least (f : Fin 1024 → EReal) : (Finset.univ.filter fun k => ∀ k', f k ≤ f k').Nonempty := by
  obtain ⟨k, hk⟩ := Finite.exists_min f
  exact ⟨k, by simpa using hk⟩

/-- The first position at which a list of 1024 extended reals is least. -/
def first (f : Fin 1024 → EReal) : Fin 1024 := (Finset.univ.filter fun k => ∀ k', f k ≤ f k').min' (exists_least f)

/-- The list is least at its first least position. -/
theorem first_le (f : Fin 1024 → EReal) (k : Fin 1024) : f (first f) ≤ f k := by
  have h := Finset.min'_mem _ (exists_least f)
  rw [Finset.mem_filter] at h
  exact h.2 k

/-- No position before the first least one holds the least element. -/
theorem first_le_of_least (f : Fin 1024 → EReal) (k : Fin 1024) (h : ∀ k', f k ≤ f k') : first f ≤ k :=
  Finset.min'_le _ _ (by simpa using h)

/-- A position that holds the least element and before which no other does is the first one. -/
theorem eq_first (f : Fin 1024 → EReal) (k : Fin 1024) (h : ∀ k', f k ≤ f k') (hk : ∀ k', f k' = f k → k ≤ k') :
    k = first f :=
  le_antisymm (hk _ (le_antisymm (first_le f k) (h _))) (first_le_of_least f k h)

/-- `tpu.reduce_index` for the least element of each row of a chunk of distances is the word of the first least position
    of that row. -/
theorem reduceIndex_row (v : FVec Ideal KernelIdeal.S1536x1024 .f32) (h : KernelIdeal.S1536x1024.Reduces [1] KernelIdeal.S1536) (r : Fin 1536) :
    reduceIndex .argMin 1 KernelIdeal.S1536 v h (ix1 r) = BitVec.ofNat 32 (first fun k => v (ix2 r k)).val := by
  have hdrop : ∀ (a : Fin 1536) (b : Fin 1024), h.drop (ix2 a b) = ix1 r ↔ a = r := by
    intro a b
    have e : h.drop (ix2 a b) = ix1 a := by
      funext x; match x with | ⟨0, _⟩ => rfl
    rw [e]
    constructor
    · intro h'; exact congrFun h' 0
    · rintro rfl; rfl
  show Ideal.reduceIndex .argMin 1 h v (ix1 r) = _
  unfold Ideal.reduceIndex
  dsimp only
  congr 1
  set f : Fin 1024 → EReal := fun k => v (ix2 r k) with hf
  have hmin : ((Finset.univ.filter fun k => ∀ k', f k ≤ f k').image Fin.val).min = (((first f).val : ℕ) : WithTop ℕ) := by
    apply le_antisymm
    · exact Finset.min_le (Finset.mem_image_of_mem _ (Finset.min'_mem _ (exists_least f)))
    · refine Finset.le_min fun n hn => ?_
      obtain ⟨k, hk, rfl⟩ := Finset.mem_image.1 hn
      exact WithTop.coe_le_coe.2 (Finset.min'_le _ _ hk)
  refine Eq.trans (b := Option.getD (((Finset.univ.filter fun k => ∀ k', f k ≤ f k').image Fin.val).min : Option ℕ) 0) ?_
    (congrArg (fun m : WithTop ℕ => Option.getD (m : Option ℕ) 0) hmin)
  refine congrArg (fun s : Finset ℕ => Option.getD (s.min : Option ℕ) 0) ?_
  ext n
  simp only [Finset.mem_image, Finset.mem_filter, Finset.mem_univ, true_and, reduceCtorEq, if_false, not_lt]
  constructor
  · rintro ⟨i, ⟨hi, hm⟩, rfl⟩
    idx_vars i
    obtain rfl := (hdrop _ _).1 hi
    exact ⟨i1, fun k' => hm (ix2 _ k') ((hdrop _ _).2 rfl), rfl⟩
  · rintro ⟨k, hk, rfl⟩
    refine ⟨ix2 r k, ⟨(hdrop _ _).2 rfl, fun i' hi' => ?_⟩, rfl⟩
    idx_vars i'
    obtain rfl := (hdrop _ _).1 hi'
    exact hk _

/-- The order in which the reference's reduction prefers one pair of a distance and an index to another: the lesser
    distance, and of equal distances the lesser index. -/
def Before (p q : EReal × BitVec 32) : Prop := p.1 < q.1 ∨ (p.1 = q.1 ∧ p.2.toInt ≤ q.2.toInt)

theorem Before.refl (p : EReal × BitVec 32) : Before p p := .inr ⟨rfl, le_rfl⟩

theorem Before.trans {p q r : EReal × BitVec 32} (h : Before p q) (h' : Before q r) : Before p r := by
  rcases h with h | ⟨h, h2⟩ <;> rcases h' with h' | ⟨h', h2'⟩
  · exact .inl (h.trans h')
  · exact .inl (h' ▸ h)
  · exact .inl (h ▸ h')
  · exact .inr ⟨h.trans h', h2.trans h2'⟩

/-- One step of the reference's reduction keeps one of the two pairs, and the one that it keeps is preferred to both. -/
theorem step_pair (p q : EReal × BitVec 32) :
    (ReferenceIdeal.reducer_argmin_f32_i32 (F := Ideal) p q = p ∨ ReferenceIdeal.reducer_argmin_f32_i32 (F := Ideal) p q = q)
      ∧ Before (ReferenceIdeal.reducer_argmin_f32_i32 (F := Ideal) p q) p ∧ Before (ReferenceIdeal.reducer_argmin_f32_i32 (F := Ideal) p q) q := by
  obtain ⟨a, i⟩ := p
  obtain ⟨b, j⟩ := q
  have e : ReferenceIdeal.reducer_argmin_f32_i32 (F := Ideal) (a, i) (b, j)
      = (if a < b then a else b, if a < b ∨ (a = b ∧ i.toInt < j.toInt) then i else j) := by
    unfold ReferenceIdeal.reducer_argmin_f32_i32
    refine Prod.ext ?_ ?_ <;> dsimp only <;> simp only [Ideal.cmpf_def, Ideal.cmp, IntOp.cmpi, IntOp.ori, IntOp.andi, Scalar.select] <;>
      by_cases h1 : a < b <;> by_cases h2 : a = b <;> by_cases h3 : i.toInt < j.toInt <;> simp [h1, h2, h3, BitVec.slt]
  rw [e]
  unfold Before
  by_cases h1 : a < b
  · simp [h1]
  · by_cases h2 : a = b
    · subst h2
      by_cases h3 : i.toInt < j.toInt
      · simp [h3, h3.le]
      · simp [h3, not_lt.1 h3]
    · simp [h1, h2, lt_of_le_of_ne (not_lt.1 h1) (Ne.symm h2)]

/-- The reference's reduction of a list of pairs ends at one of them, or at the pair it starts from, and it is preferred
    to all of them. -/
theorem fold_pairs (l : List (EReal × BitVec 32)) : ∀ p : EReal × BitVec 32,
    l.foldl (ReferenceIdeal.reducer_argmin_f32_i32 (F := Ideal)) p ∈ p :: l
      ∧ ∀ q ∈ p :: l, Before (l.foldl (ReferenceIdeal.reducer_argmin_f32_i32 (F := Ideal)) p) q := by
  induction l with
  | nil => intro p; simp [Before.refl]
  | cons a l ih =>
    intro p
    obtain ⟨h1, h2, h3⟩ := step_pair p a
    obtain ⟨i1, i2⟩ := ih (ReferenceIdeal.reducer_argmin_f32_i32 (F := Ideal) p a)
    rw [List.foldl_cons]
    refine ⟨?_, fun q hq => ?_⟩
    · rcases List.mem_cons.1 i1 with e | e
      · rw [e]; rcases h1 with h1 | h1 <;> rw [h1] <;> simp
      · simp [e]
    · have i0 := i2 _ (List.mem_cons_self ..)
      rcases List.mem_cons.1 hq with rfl | hq
      · exact i0.trans h2
      · rcases List.mem_cons.1 hq with rfl | hq
        · exact i0.trans h3
        · exact i2 _ (List.mem_cons_of_mem _ hq)

/-- The reference's reduction of each row of distances with its indices, from the pair of +∞ and index 0, ends at the word
    of the first least position of that row. -/
theorem argReduce_row (v : FVec Ideal ReferenceIdeal.S4608x1024 .f32) (d d' : Fin ReferenceIdeal.S4608x1024.rank) (hd : d = 1)
    (hd' : d' = 1) (h : ReferenceIdeal.S4608x1024.ReducesTo [d] ReferenceIdeal.S4608) (hu : 0 < ReferenceIdeal.S_.numel) (t : Fin 4608) :
    (Host.argReduce (ReferenceIdeal.reducer_argmin_f32_i32 (F := Ideal)) v (iotaInDim ReferenceIdeal.S4608x1024 32 d')
      (constant ReferenceIdeal.S_ .f32 0x7F800000#32) (constantI ReferenceIdeal.S_ 32 0#32) h hu (ix1 t)).2
      = BitVec.ofNat 32 (first fun k => v (ix2 t k)).val := by
  subst hd hd'
  have hdrop : ∀ (a : Fin 4608) (b : Fin 1024), h.drop (ix2 a b) = ix1 t ↔ a = t := by
    intro a b
    have e : h.drop (ix2 a b) = ix1 a := by
      funext x; match x with | ⟨0, _⟩ => rfl
    rw [e]
    constructor
    · intro h'; exact congrFun h' 0
    · rintro rfl; rfl
  have htop : Ideal.ofBits .f32 0x7F800000#32 = ⊤ := by simp [Ideal.ofBits, Ideal.ieee]
  rw [Ideal.argReduce_eq_reduce2, Host.reduce2_eq_foldl_fiber]
  obtain ⟨hmem, hall⟩ := fold_pairs (Host.argReduceFiber v (iotaInDim ReferenceIdeal.S4608x1024 32 1) h (ix1 t)) (⊤, 0#32)
  have hfib : ∀ q : EReal × BitVec 32, q ∈ Host.argReduceFiber v (iotaInDim ReferenceIdeal.S4608x1024 32 1) h (ix1 t)
      ↔ ∃ k : Fin 1024, q = (v (ix2 t k), BitVec.ofNat 32 k.val) := by
    intro q
    unfold Host.argReduceFiber
    simp only [List.mem_map, List.mem_filter, List.mem_finRange, true_and, decide_eq_true_eq]
    constructor
    · rintro ⟨n, hn, rfl⟩
      obtain ⟨i, hi⟩ : ∃ i, i = ReferenceIdeal.S4608x1024.rowMajor.symm n := ⟨_, rfl⟩
      rw [← hi] at hn ⊢
      clear hi
      idx_vars i
      obtain rfl := (hdrop _ _).1 hn
      exact ⟨i1, rfl⟩
    · rintro ⟨k, rfl⟩
      refine ⟨ReferenceIdeal.S4608x1024.rowMajor (ix2 t k), ?_, ?_⟩ <;> rw [Equiv.symm_apply_apply]
      · exact (hdrop _ _).2 rfl
      · rfl
  show (List.foldl _ (Ideal.ofBits .f32 0x7F800000#32, 0#32) _).2 = _
  rw [htop]
  generalize List.foldl (ReferenceIdeal.reducer_argmin_f32_i32 (F := Ideal)) (⊤, 0#32)
    (Host.argReduceFiber v (iotaInDim ReferenceIdeal.S4608x1024 32 1) h (ix1 t)) = w at hmem hall ⊢
  set f : Fin 1024 → EReal := fun k => v (ix2 t k) with hf
  have key : ∃ k : Fin 1024, w = (f k, BitVec.ofNat 32 k.val) := by
    rcases List.mem_cons.1 hmem with e | e
    · refine ⟨0, ?_⟩
      have := hall (f 0, BitVec.ofNat 32 0) (List.mem_cons_of_mem _ ((hfib _).2 ⟨0, rfl⟩))
      rw [e] at this ⊢
      rcases this with h' | ⟨h', _⟩
      · exact absurd h' (not_top_lt)
      · exact Prod.ext h' rfl
    · exact (hfib _).1 e
  have hint : ∀ k : Fin 1024, (BitVec.ofNat 32 k.val).toInt = (k.val : ℤ) := by decide +kernel
  obtain ⟨k, rfl⟩ := key
  have hk : ∀ k' : Fin 1024, Before (f k, BitVec.ofNat 32 k.val) (f k', BitVec.ofNat 32 k'.val) := fun k' =>
    hall _ (List.mem_cons_of_mem _ ((hfib _).2 ⟨k', rfl⟩))
  rw [← eq_first f k]
  · intro k'
    rcases hk k' with h' | ⟨h', _⟩
    · exact h'.le
    · exact h'.le
  · intro k' e
    rcases hk k' with h' | ⟨_, h'⟩
    · exact absurd h' (by rw [e]; exact lt_irrefl _)
    · rw [hint, hint] at h'; exact Fin.le_def.2 (by omega)

end Cert.VQ

end
-- ==== Proof.Chunk.lean ====
/-
  What the kernel's body computes on one chunk of 1536 rows, element by element. The body is the same three times over;
  each fact is stated of the first chunk's values, and the other two chunks' values are equal to them.
-/
module

public import proofs.«01_k».proof.Proof.Nearest
public import proofs.«01_k».proof.Proof.Gen.KernelIdeal.Frame
public import Idealize.ShloMosaic.Lib.Pointwise

@[expose] public section

set_option maxRecDepth 16384

noncomputable section

namespace Cert.VQ

open Idealize.ShloMosaic Cert.KernelIdeal Cert.KernelIdeal.Gen

/-- The kernel's distance of a row `z` from code `k`: |z|² + z · (−2 c) + |c|². -/
def distK (z : Fin 256 → EReal) (y : FVec Ideal S1024x256 .f32) (k : Fin 1024) : EReal :=
  ((∑ j : Fin 256, z j * z j) + ∑ j : Fin 256, z j * (y (ix2 k j) * Ideal.ofBits .f32 0xC0000000#32))
    + ∑ j : Fin 256, y (ix2 k j) * y (ix2 k j)

/-- The number of the code nearest to a row `z`, by the kernel's distances. -/
def near (z : Fin 256 → EReal) (y : FVec Ideal S1024x256 .f32) : Fin 1024 := first (distK z y)

/-- The word of a code's number determines the number. -/
theorem word_eq_iff : ∀ a b : Fin 1024, (BitVec.ofNat 32 a.val = BitVec.ofNat 32 b.val) ↔ a = b := by
  intro a b
  constructor
  · intro h
    have := congrArg BitVec.toNat h
    simp only [BitVec.toNat_ofNat] at this
    exact Fin.ext (by omega)
  · rintro rfl; rfl

/-- The chunk's one-hot matrix: 1 at the number of the code nearest to the row, 0 elsewhere. -/
theorem onehot_apply (x : Vec Ideal S1536x256 .f32) (y : Vec Ideal S1024x256 .f32) (r : Fin 1536) (k : Fin 1024) :
    k0_pay16 (F := Ideal) (k0_pay7 y) (k0_pay8 y) x (ix2 r k)
      = if k = near (fun j => x (ix2 r j)) y then (1 : EReal) else 0 := by
  pointwise [k0_pay16, k0_pay7, k0_pay8, k0_pay15]
  rw [reduceIndex_row]
  generalize hV : (addf _ _ : FVec Ideal S1536x1024 .f32) = V
  have hd : (fun k : Fin 1024 => V (ix2 r k)) = distK (fun j => x (ix2 r j)) y := by
    funext k
    rw [← hV]
    pointwise [distK]
  rw [hd]
  simp only [IntOp.cmpi, beq_eq_decide, word_eq_iff, near]
  by_cases h : k = first (distK (fun j => x (ix2 r j)) y)
  · simp [h, FloatOps.sitofp]
  · simp [h, FloatOps.sitofp]

/-- The sum against a one-hot list picks the element it points at. -/
theorem sum_onehot {ι : Type} [Fintype ι] [DecidableEq ι] (n : ι) (f : ι → EReal) :
    (∑ k, (if k = n then (1 : EReal) else 0) * f k) = f n := by
  rw [Finset.sum_eq_single n]
  · simp
  · intro b _ hb; simp [hb]
  · simp

/-- The difference of the code nearest to the row and the row. -/
theorem diff_apply (x : Vec Ideal S1536x256 .f32) (y : Vec Ideal S1024x256 .f32) (r : Fin 1536) (j : Fin 256) :
    k0_pay18 (F := Ideal) (k0_pay6 y) (k0_pay7 y) (k0_pay8 y) x (ix2 r j)
      = y (ix2 (near (fun j => x (ix2 r j)) y) j) - x (ix2 r j) := by
  pointwise [k0_pay18, k0_pay6, k0_pay15]
  simp only [onehot_apply, sum_onehot]

/-- The chunk of the first result: the row plus its difference from the nearest code. -/
theorem out_apply (x : Vec Ideal S1536x256 .f32) (y : Vec Ideal S1024x256 .f32) (r : Fin 1536) (j : Fin 256) :
    k0_pay19 (F := Ideal) (k0_pay6 y) (k0_pay7 y) (k0_pay8 y) x (ix2 r j)
      = x (ix2 r j) + (y (ix2 (near (fun j => x (ix2 r j)) y) j) - x (ix2 r j)) := by
  pointwise [k0_pay19, k0_pay15]
  rw [diff_apply]

/-- The quotient by 32 of each code's number, as the kernel computes it. -/
theorem hi_apply (k : Fin 1024) : k0_pay9 (F := Ideal) (ix2 0 k) = (((k.val / 32 : ℕ) : ℝ) : EReal) := by
  have h : ∀ k : Fin 1024, (Scalar.select
        (IntOp.andi
          (IntOp.cmpi CmpIPredicate.ne
            (IntOp.subi (BitVec.setWidth 32 (IntOp.cmpi CmpIPredicate.sgt (BitVec.ofNat 32 ↑k) 0#32))
              (BitVec.setWidth 32 (IntOp.cmpi CmpIPredicate.slt (BitVec.ofNat 32 ↑k) 0#32)))
            (Scalar.subi (Scalar.extui (Scalar.cmpi CmpIPredicate.sgt 32#32 0#32))
              (Scalar.extui (Scalar.cmpi CmpIPredicate.slt 32#32 0#32))))
          (IntOp.cmpi CmpIPredicate.ne (IntOp.remsi ArithUnit.vector (BitVec.ofNat 32 ↑k) 32#32) 0#32))
        (IntOp.subi (IntOp.divsi ArithUnit.vector (BitVec.ofNat 32 ↑k) 32#32) 1#32)
        (IntOp.divsi ArithUnit.vector (BitVec.ofNat 32 ↑k) 32#32)).toInt = ((k.val / 32 : ℕ) : ℤ) := by decide +kernel
  pointwise [k0_pay9]
  show (((_ : ℤ) : ℝ) : EReal) = _
  rw [h]; norm_cast

/-- The two rows against which the kernel multiplies the one-hot matrix: quotient and remainder by 32 of each code's number. -/
theorem digits_apply (a : Fin 2) (k : Fin 1024) :
    k0_pay13 (F := Ideal) k0_pay9 (Scalar.select (Scalar.cmpi .eq 32#32 0#32) 1#32 32#32) k0_pay10 k0_pay11 k0_pay12 0#32 (ix2 a k)
      = (((if a = 0 then k.val / 32 else k.val % 32 : ℕ) : ℝ) : EReal) := by
  have h : ∀ k : Fin 1024, (Scalar.select
          (IntOp.andi
            (IntOp.xori
              (IntOp.cmpi CmpIPredicate.slt
                (IntOp.remsi ArithUnit.vector (BitVec.ofNat 32 ↑k)
                  (Scalar.select (Scalar.cmpi CmpIPredicate.eq 32#32 0#32) 1#32 32#32))
                0#32)
              (Scalar.cmpi CmpIPredicate.slt (Scalar.select (Scalar.cmpi CmpIPredicate.eq 32#32 0#32) 1#32 32#32) 0#32))
            (IntOp.cmpi CmpIPredicate.ne
              (IntOp.remsi ArithUnit.vector (BitVec.ofNat 32 ↑k)
                (Scalar.select (Scalar.cmpi CmpIPredicate.eq 32#32 0#32) 1#32 32#32))
              0#32))
          (IntOp.addi
            (IntOp.remsi ArithUnit.vector (BitVec.ofNat 32 ↑k)
              (Scalar.select (Scalar.cmpi CmpIPredicate.eq 32#32 0#32) 1#32 32#32))
            (Scalar.select (Scalar.cmpi CmpIPredicate.eq 32#32 0#32) 1#32 32#32))
          (IntOp.remsi ArithUnit.vector (BitVec.ofNat 32 ↑k)
            (Scalar.select (Scalar.cmpi CmpIPredicate.eq 32#32 0#32) 1#32 32#32))).toInt = ((k.val % 32 : ℕ) : ℤ) := by decide +kernel
  pointwise [k0_pay13, k0_pay10, k0_pay11, k0_pay12]
  match a with
  | ⟨0, _⟩ => exact hi_apply k
  | ⟨1, _⟩ =>
    show (((_ : ℤ) : ℝ) : EReal) = _
    rw [h]; norm_cast

/-- The constant by which the kernel multiplies the quotient is 32. -/
theorem ofBits_thirty_two : Ideal.ofBits .f32 0x42000000#32 = ((32 : ℝ) : EReal) := by
  simp [Ideal.ofBits, Ideal.ieee, -EReal.coe_mul]; norm_num

/-- A code's number as a float converts to its word. -/
theorem fptosi_int (n : Fin 1024) : Ideal.fptosi 32 ((((n.val : ℤ) : ℝ)) : EReal) = BitVec.ofNat 32 n.val := by
  have h := n.isLt
  unfold Ideal.fptosi
  rw [Ideal.toIntClamped_coe, Int.floor_intCast, if_pos (by positivity), min_eq_right (by norm_num; omega), max_eq_right (by norm_num)]
  rfl

/-- The chunk of the second result: the word of the number of the code nearest to the row. -/
theorem index_apply (x : Vec Ideal S1536x256 .f32) (y : Vec Ideal S1024x256 .f32) (r : Fin 1536) :
    k0_pay17 (F := Ideal) (k0_pay7 y) (k0_pay8 y) k0_pay9 (Scalar.select (Scalar.cmpi .eq 32#32 0#32) 1#32 32#32)
        k0_pay10 k0_pay11 k0_pay12 0#32 x (ix2 0 r)
      = BitVec.ofNat 32 (near (fun j => x (ix2 r j)) y).val := by
  pointwise [k0_pay17]
  simp only [onehot_apply, digits_apply]
  rw [ofBits_thirty_two]
  simp only [mul_comm (_ : EReal) (if _ then (1 : EReal) else 0), sum_onehot]
  generalize near (fun j => x (ix2 r j)) y = n
  rw [if_pos trivial, if_neg (by decide), ← EReal.coe_mul, ← EReal.coe_add]
  have e : (32 : ℝ) * ((n.val / 32 : ℕ) : ℝ) + ((n.val % 32 : ℕ) : ℝ) = ((n.val : ℤ) : ℝ) := by
    have := Nat.div_add_mod n.val 32
    rw [Int.cast_natCast]; exact_mod_cast congrArg (fun q : ℕ => (q : ℝ)) this
  rw [e]
  exact fptosi_int n

/-- The chunk's sum of squared differences. -/
theorem sq_apply (x : Vec Ideal S1536x256 .f32) (y : Vec Ideal S1024x256 .f32) :
    k0_pay20 (F := Ideal) (k0_pay6 y) (k0_pay7 y) (k0_pay8 y) x (ix1 0)
      = ∑ r : Fin 1536, ∑ j : Fin 256, (y (ix2 (near (fun j => x (ix2 r j)) y) j) - x (ix2 r j))
          * (y (ix2 (near (fun j => x (ix2 r j)) y) j) - x (ix2 r j)) := by
  pointwise [k0_pay20]
  simp only [diff_apply]

end Cert.VQ

end
-- ==== Proof.Whole.lean ====
/-
  What the kernel's body leaves in its three output windows, as functions of the whole arrays of rows and codes.
-/
module

public import proofs.«01_k».proof.Proof.Chunk

@[expose] public section

set_option maxRecDepth 16384

noncomputable section

namespace Cert.VQ

open Idealize.ShloMosaic Cert.KernelIdeal Cert.KernelIdeal.Gen

/-- Row `t` of the array of rows. -/
def row (x : Vec Ideal S4608x256 .f32) (t : Fin 4608) : Fin 256 → EReal := fun j => x (ix2 t j)

/-- The code nearest to row `t`, minus the row, at place `j`. -/
def dif (x : Vec Ideal S4608x256 .f32) (y : Vec Ideal S1024x256 .f32) (t : Fin 4608) (j : Fin 256) : EReal :=
  y (ix2 (near (row x t) y) j) - x (ix2 t j)

/-- Every row plus its difference from the nearest code. -/
def outRows (x : Vec Ideal S4608x256 .f32) (y : Vec Ideal S1024x256 .f32) : Vec Ideal S4608x256 .f32 :=
  fun i => x (ix2 (i 0) (i 1)) + dif x y (i 0) (i 1)

/-- The word of the number of the code nearest to each row. -/
def idxRow (x : Vec Ideal S4608x256 .f32) (y : Vec Ideal S1024x256 .f32) : Vec Ideal S1x4608 .i32 :=
  fun i => BitVec.ofNat 32 (near (row x (i 1)) y).val

/-- The sum of the squared differences. -/
def sumSq (x : Vec Ideal S4608x256 .f32) (y : Vec Ideal S1024x256 .f32) : EReal :=
  ∑ t : Fin 4608, ∑ j : Fin 256, dif x y t j * dif x y t j

/-- The loss of a sum of squared differences: a quarter of the mean, plus the mean. -/
def loss (s : EReal) : EReal :=
  Ideal.ofBits .f32 0x3E800000#32 * Ideal.div s (Ideal.ofBits .f32 0x49900000#32)
    + Ideal.div s (Ideal.ofBits .f32 0x49900000#32)

theorem hz : (![0, 0] : Fin 2 → Nat) = fun _ => 0 := funext fun a => by fin_cases a <;> rfl

/-- Chunk `q`'s row `r` is row `1536 q + r` of the whole. -/
def place (q : Fin 3) (r : Fin 1536) : Fin 4608 := ⟨q.val * 1536 + r.val, by omega⟩

variable (x : Vec Ideal S4608x256 .f32) (y : Vec Ideal S1024x256 .f32)

/-- The second and the third chunk's values are the first chunk's, at their own rows. -/
theorem out_two (X : Vec Ideal S1536x256 .f32) :
    k0_pay25 (F := Ideal) (k0_pay6 y) (k0_pay7 y) (k0_pay8 y) (iota .tc S1536x1024 32 [1] iota_S1536x1024_d1_w32) X
      = k0_pay19 (k0_pay6 y) (k0_pay7 y) (k0_pay8 y) X := rfl

theorem out_three (X : Vec Ideal S1536x256 .f32) :
    k0_pay4 (F := Ideal) (k0_pay6 y) (k0_pay8 y) (iota .tc S1536x1024 32 [1] iota_S1536x1024_d1_w32) (k0_pay27 X) (k0_pay28 (k0_pay7 y) X)
      = k0_pay19 (k0_pay6 y) (k0_pay7 y) (k0_pay8 y) X := rfl

/-- A chunk of the first output, at rows read from the whole. -/
theorem out_place (X : Vec Ideal S1536x256 .f32) (q : Fin 3) (hX : ∀ r j, X (ix2 r j) = x (ix2 (place q r) j)) (r : Fin 1536)
    (j : Fin 256) :
    k0_pay19 (F := Ideal) (k0_pay6 y) (k0_pay7 y) (k0_pay8 y) X (ix2 r j) = outRows x y (ix2 (place q r) j) := by
  rw [out_apply]
  simp only [hX]
  rfl

/-- Chunk `q`'s rectangle of the array of rows, one place of it. -/
theorem emb_one (r : Fin 1536) (j : Fin 256) : r0_1.emb (ix2 r j) = ix2 (place 0 r) j :=
  funext fun a => by apply Fin.ext; match a with | ⟨0, _⟩ => simp [place] | ⟨1, _⟩ => simp
theorem emb_two (r : Fin 1536) (j : Fin 256) : r0_3.emb (ix2 r j) = ix2 (place 1 r) j :=
  funext fun a => by apply Fin.ext; match a with | ⟨0, _⟩ => simp [place] | ⟨1, _⟩ => simp
theorem emb_three (r : Fin 1536) (j : Fin 256) : r0_5.emb (ix2 r j) = ix2 (place 2 r) j :=
  funext fun a => by apply Fin.ext; match a with | ⟨0, _⟩ => simp [place] | ⟨1, _⟩ => simp

theorem ld_one (r : Fin 1536) (j : Fin 256) : View.ld (Val := Elt Ideal) x r0_1 (ix2 r j) = x (ix2 (place 0 r) j) :=
  congrArg x (emb_one r j)
theorem ld_two (r : Fin 1536) (j : Fin 256) : View.ld (Val := Elt Ideal) x r0_3 (ix2 r j) = x (ix2 (place 1 r) j) :=
  congrArg x (emb_two r j)
theorem ld_three (r : Fin 1536) (j : Fin 256) : View.ld (Val := Elt Ideal) x r0_5 (ix2 r j) = x (ix2 (place 2 r) j) :=
  congrArg x (emb_three r j)

/-- The first output window after the body. -/
theorem out2_eq : out0_2 (F := Ideal) x y = outRows x y := by
  funext i
  unfold_out out0_2
  rw [View.ld_unit_zero hz]
  refine View.canon_apply_of_pieces (outRows x y) _ ?_ i (cover0_2 _ _ _ i)
  intro p hp
  simp only [List.mem_cons, List.mem_nil_iff, or_false] at hp
  rcases hp with rfl | rfl | rfl
  · intro i
    idx_vars i
    rw [emb_three]
    exact (congrFun (out_three y _) _).trans (out_place x y _ 2 (ld_three x) _ _)
  · intro i
    idx_vars i
    rw [emb_two]
    exact (congrFun (out_two y _) _).trans (out_place x y _ 1 (ld_two x) _ _)
  · intro i
    idx_vars i
    rw [emb_one]
    exact out_place x y _ 0 (ld_one x) _ _

/-- The kernel's array of the digits of the codes' numbers. -/
abbrev digits : FVec Ideal S2x1024 .bf16 :=
  k0_pay13 k0_pay9 (Scalar.select (Scalar.cmpi .eq 32#32 0#32) 1#32 32#32) k0_pay10 k0_pay11 k0_pay12 0#32

/-- The first chunk's indices. -/
abbrev idxOne (X : Vec Ideal S1536x256 .f32) : IVec S1x1536 32 :=
  k0_pay17 (F := Ideal) (k0_pay7 y) (k0_pay8 y) k0_pay9 (Scalar.select (Scalar.cmpi .eq 32#32 0#32) 1#32 32#32)
    k0_pay10 k0_pay11 k0_pay12 0#32 X

theorem idx_two (X : Vec Ideal S1536x256 .f32) :
    k0_pay23 (F := Ideal) (k0_pay7 y) (k0_pay8 y) digits (iota .tc S1536x1024 32 [1] iota_S1536x1024_d1_w32) X = idxOne y X := rfl

theorem idx_three (X : Vec Ideal S1536x256 .f32) :
    k0_pay2 (F := Ideal) (k0_pay8 y) digits (iota .tc S1536x1024 32 [1] iota_S1536x1024_d1_w32) (k0_pay27 X) (k0_pay28 (k0_pay7 y) X)
      = idxOne y X := rfl

/-- A chunk of the second output, at rows read from the whole. -/
theorem idx_place (X : Vec Ideal S1536x256 .f32) (q : Fin 3) (hX : ∀ r j, X (ix2 r j) = x (ix2 (place q r) j)) (r : Fin 1536) :
    idxOne y X (ix2 0 r) = idxRow x y (ix2 0 (place q r)) := by
  rw [idxOne, index_apply]
  simp only [hX]
  rfl

/-- Chunk `q`'s rectangle of the row of indices, one place of it. -/
theorem embr_one (a : Fin 1) (r : Fin 1536) : r0_2.emb (ix2 a r) = ix2 0 (place 0 r) :=
  funext fun b => by apply Fin.ext; match b with | ⟨0, _⟩ => simp | ⟨1, _⟩ => simp [place]
theorem embr_two (a : Fin 1) (r : Fin 1536) : r0_4.emb (ix2 a r) = ix2 0 (place 1 r) :=
  funext fun b => by apply Fin.ext; match b with | ⟨0, _⟩ => simp | ⟨1, _⟩ => simp [place]
theorem embr_three (a : Fin 1) (r : Fin 1536) : r0_6.emb (ix2 a r) = ix2 0 (place 2 r) :=
  funext fun b => by apply Fin.ext; match b with | ⟨0, _⟩ => simp | ⟨1, _⟩ => simp [place]

/-- The second output window after the body. -/
theorem out3_eq : out0_3 (F := Ideal) x y = idxRow x y := by
  funext i
  unfold_out out0_3
  rw [View.ld_unit_zero hz]
  refine View.canon_apply_of_pieces (idxRow x y) _ ?_ i (cover0_3 _ _ _ i)
  intro p hp
  simp only [List.mem_cons, List.mem_nil_iff, or_false] at hp
  rcases hp with rfl | rfl | rfl
  · intro i
    obtain ⟨a, r, rfl⟩ : ∃ (a : Fin 1) (r : Fin 1536), i = ix2 a r := ⟨i 0, i 1, eq_ix2 i⟩
    rw [embr_three, Subsingleton.elim a 0]
    exact (congrFun (idx_three y _) _).trans (idx_place x y _ 2 (ld_three x) _)
  · intro i
    obtain ⟨a, r, rfl⟩ : ∃ (a : Fin 1) (r : Fin 1536), i = ix2 a r := ⟨i 0, i 1, eq_ix2 i⟩
    rw [embr_two, Subsingleton.elim a 0]
    exact (congrFun (idx_two y _) _).trans (idx_place x y _ 1 (ld_two x) _)
  · intro i
    obtain ⟨a, r, rfl⟩ : ∃ (a : Fin 1) (r : Fin 1536), i = ix2 a r := ⟨i 0, i 1, eq_ix2 i⟩
    rw [embr_one, Subsingleton.elim a 0]
    exact idx_place x y _ 0 (ld_one x) _

/-- The sum of the squared differences of one chunk of rows. -/
def sumChunk (q : Fin 3) : EReal := ∑ r : Fin 1536, ∑ j : Fin 256, dif x y (place q r) j * dif x y (place q r) j

theorem sq_place (X : Vec Ideal S1536x256 .f32) (q : Fin 3) (hX : ∀ r j, X (ix2 r j) = x (ix2 (place q r) j)) :
    k0_pay20 (F := Ideal) (k0_pay6 y) (k0_pay7 y) (k0_pay8 y) X (ix1 0) = sumChunk x y q := by
  rw [sq_apply]
  simp only [hX]
  rfl

/-- A row's number, split into its chunk's and its number there. -/
def placeEquiv : Fin 3 × Fin 1536 ≃ Fin 4608 where
  toFun p := place p.1 p.2
  invFun t := (⟨t.val / 1536, by omega⟩, ⟨t.val % 1536, by omega⟩)
  left_inv p := by
    obtain ⟨q, r⟩ := p
    refine Prod.ext (Fin.ext ?_) (Fin.ext ?_)
    · show (q.val * 1536 + r.val) / 1536 = q.val; omega
    · show (q.val * 1536 + r.val) % 1536 = r.val; omega
  right_inv t := Fin.ext (by show t.val / 1536 * 1536 + t.val % 1536 = t.val; omega)

/-- The chunks' sums add up to the sum over all rows. -/
theorem sum_chunks : sumChunk x y 0 + sumChunk x y 1 + sumChunk x y 2 = sumSq x y := by
  rw [← Fin.sum_univ_three (sumChunk x y)]
  unfold sumSq sumChunk
  rw [← Equiv.sum_comp placeEquiv (fun t => ∑ j : Fin 256, dif x y t j * dif x y t j), Fintype.sum_prod_type]
  rfl

theorem acc_two (X Z : Vec Ideal S1536x256 .f32) :
    k0_pay26 (F := Ideal) (k0_pay6 y) (k0_pay7 y) (k0_pay8 y) (iota .tc S1536x1024 32 [1] iota_S1536x1024_d1_w32) k0_pay14
        (k0_pay20 (k0_pay6 y) (k0_pay7 y) (k0_pay8 y) X) Z (ix2 0 0)
      = k0_pay20 (k0_pay6 y) (k0_pay7 y) (k0_pay8 y) X (ix1 0)
        + k0_pay20 (k0_pay6 y) (k0_pay7 y) (k0_pay8 y) Z (ix1 0) := by
  have e : k0_pay24 (F := Ideal) (k0_pay6 y) (k0_pay7 y) (k0_pay8 y) (iota .tc S1536x1024 32 [1] iota_S1536x1024_d1_w32) Z
      = k0_pay18 (k0_pay6 y) (k0_pay7 y) (k0_pay8 y) Z := rfl
  pointwise [k0_pay26, k0_pay14]
  rw [e]
  pointwise [k0_pay20]

theorem acc_three (A : FVec Ideal S1x1 .f32) (Z : Vec Ideal S1536x256 .f32) :
    k0_pay5 (F := Ideal) (k0_pay6 y) (k0_pay8 y) (iota .tc S1536x1024 32 [1] iota_S1536x1024_d1_w32) A
        (k0_pay27 Z) (k0_pay28 (k0_pay7 y) Z) (ix2 0 0)
      = loss (A (ix2 0 0) + k0_pay20 (k0_pay6 y) (k0_pay7 y) (k0_pay8 y) Z (ix1 0)) := by
  have e : k0_pay3 (F := Ideal) (k0_pay6 y) (k0_pay8 y) (iota .tc S1536x1024 32 [1] iota_S1536x1024_d1_w32) (k0_pay27 Z) (k0_pay28 (k0_pay7 y) Z)
      = k0_pay18 (k0_pay6 y) (k0_pay7 y) (k0_pay8 y) Z := rfl
  unfold loss
  pointwise [k0_pay5]
  rw [e]
  pointwise [k0_pay20]

/-- The third output window after the body. -/
theorem out4_eq : out0_4 (F := Ideal) x y = fun _ => loss (sumSq x y) := by
  funext i
  obtain ⟨a, b, rfl⟩ : ∃ (a b : Fin 1), i = ix2 a b := ⟨i 0, i 1, eq_ix2 i⟩
  obtain rfl := Subsingleton.elim a 0
  obtain rfl := Subsingleton.elim b 0
  unfold_out out0_4
  rw [View.canon_unit_zero hz, View.ld_unit_zero hz]
  rw [acc_three, acc_two, sq_place x y _ 0 (ld_one x), sq_place x y _ 1 (ld_two x), sq_place x y _ 2 (ld_three x), ← sum_chunks]

end Cert.VQ
-- ==== Proof.Run.lean ====
/-
  The kernel's run: what each result's array holds at the end, as a function of the two arguments.
-/
module

public import proofs.«01_k».proof.Proof.Whole
public import Idealize.ShloMosaic.Lib.Claim

@[expose] public section

set_option maxRecDepth 16384

noncomputable section

namespace Cert.VQ

open Idealize.ShloMosaic Idealize.SL.Sem Cert.KernelIdeal Cert.KernelIdeal.Gen Idealize.ShloMosaic.TcCoe

/-- The array of rows the kernel's region is given: the first argument's channels moved last, its places in one line. -/
def rows (z : Vec Ideal S8x256x24x24 .f32) : Vec Ideal S4608x256 .f32 :=
  shapeCast S4608x256 (transpose S8x24x24x256 [0, 2, 3, 1] z transposes_S8x256x24x24_S8x24x24x256_0_2_3_1)
    shapeCasts_S8x24x24x256_S4608x256

/-- The three results, of the two arguments. -/
def res0 (z : Vec Ideal S8x256x24x24 .f32) (y : Vec Ideal S1024x256 .f32) : Vec Ideal S8x256x24x24 .f32 :=
  transpose S8x256x24x24 [0, 3, 1, 2] (shapeCast S8x24x24x256 (outRows (rows z) y) shapeCasts_S4608x256_S8x24x24x256)
    transposes_S8x24x24x256_S8x256x24x24_0_3_1_2
def res1 (z : Vec Ideal S8x256x24x24 .f32) (y : Vec Ideal S1024x256 .f32) : Vec Ideal S4608 .i32 :=
  shapeCast S4608 (idxRow (rows z) y) shapeCasts_S1x4608_S4608
def res2 (z : Vec Ideal S8x256x24x24 .f32) (y : Vec Ideal S1024x256 .f32) : Vec Ideal S_ .f32 :=
  fun _ => loss (sumSq (rows z) y)

variable (m : (ℓ : Loc nD τ sig) → Buf (Elt Ideal) ℓ) (ρ : Dev nD → PrngReg)

/-- Each window's block index at the one grid point is zero on every axis, so a place of the block is that place of the array. -/
theorem emb0 (t : Fin cfg0.N) (j : S4608x256.Idx) : ((cfg0.win 0).blk t).view.emb j = j := by
  obtain ⟨e0, e1⟩ := (by decide +kernel : ∀ t : Fin grid0.N, win0_0.index t (0 : Fin 2) = 0 ∧ win0_0.index t (1 : Fin 2) = 0) t
  funext a; apply Fin.ext
  match a with
  | ⟨0, _⟩ => show win0_0.index t (0 : Fin 2) * 4608 + 1 * (j 0).val = (j 0).val; omega
  | ⟨1, _⟩ => show win0_0.index t (1 : Fin 2) * 256 + 1 * (j 1).val = (j 1).val; omega
theorem emb1 (t : Fin cfg0.N) (j : S1024x256.Idx) : ((cfg0.win 1).blk t).view.emb j = j := by
  obtain ⟨e0, e1⟩ := (by decide +kernel : ∀ t : Fin grid0.N, win0_1.index t (0 : Fin 2) = 0 ∧ win0_1.index t (1 : Fin 2) = 0) t
  funext a; apply Fin.ext
  match a with
  | ⟨0, _⟩ => show win0_1.index t (0 : Fin 2) * 1024 + 1 * (j 0).val = (j 0).val; omega
  | ⟨1, _⟩ => show win0_1.index t (1 : Fin 2) * 256 + 1 * (j 1).val = (j 1).val; omega
theorem emb2 (t : Fin cfg0.N) (j : S4608x256.Idx) : ((cfg0.win 2).blk t).view.emb j = j := by
  obtain ⟨e0, e1⟩ := (by decide +kernel : ∀ t : Fin grid0.N, win0_2.index t (0 : Fin 2) = 0 ∧ win0_2.index t (1 : Fin 2) = 0) t
  funext a; apply Fin.ext
  match a with
  | ⟨0, _⟩ => show win0_2.index t (0 : Fin 2) * 4608 + 1 * (j 0).val = (j 0).val; omega
  | ⟨1, _⟩ => show win0_2.index t (1 : Fin 2) * 256 + 1 * (j 1).val = (j 1).val; omega
theorem emb3 (t : Fin cfg0.N) (j : S1x4608.Idx) : ((cfg0.win 3).blk t).view.emb j = j := by
  obtain ⟨e0, e1⟩ := (by decide +kernel : ∀ t : Fin grid0.N, win0_3.index t (0 : Fin 2) = 0 ∧ win0_3.index t (1 : Fin 2) = 0) t
  funext a; apply Fin.ext
  match a with
  | ⟨0, _⟩ => show win0_3.index t (0 : Fin 2) * 1 + 1 * (j 0).val = (j 0).val; omega
  | ⟨1, _⟩ => show win0_3.index t (1 : Fin 2) * 4608 + 1 * (j 1).val = (j 1).val; omega
theorem emb4 (t : Fin cfg0.N) (j : S1x1.Idx) : ((cfg0.win 4).blk t).view.emb j = j := by
  obtain ⟨e0, e1⟩ := (by decide +kernel : ∀ t : Fin grid0.N, win0_4.index t (0 : Fin 2) = 0 ∧ win0_4.index t (1 : Fin 2) = 0) t
  funext a; apply Fin.ext
  match a with
  | ⟨0, _⟩ => show win0_4.index t (0 : Fin 2) * 1 + 1 * (j 0).val = (j 0).val; omega
  | ⟨1, _⟩ => show win0_4.index t (1 : Fin 2) * 1 + 1 * (j 1).val = (j 1).val; omega

/-- What the region finds in the array of rows. -/
theorem V_rows (c : Dev nD) : V m c main_v1 = rows (m (c.tc.loc main_arg0)) := by
  entry_read
  rfl

/-- The input windows' blocks are the arrays as the region finds them. -/
theorem iblk0_eq (c : Dev nD) (t : Fin cfg0.N) : iblk m c 0 t = rows (m (c.tc.loc main_arg0)) := by
  rw [← V_rows m c]
  funext j; show V m c main_v1 (((cfg0.win 0).blk t).view.emb j) = V m c main_v1 j; rw [emb0]
theorem iblk1_eq (c : Dev nD) (t : Fin cfg0.N) : iblk m c 1 t = m (c.tc.loc main_arg1) := by
  rw [← V_main_arg1 m c]
  funext j; show V m c main_arg1 (((cfg0.win 1).blk t).view.emb j) = V m c main_arg1 j; rw [emb1]

/-- The output arrays after the region. -/
theorem final2 (c : Dev nD) : (dats m 0 c).arrAt 2 cfg0.N = outRows (rows (m (c.tc.loc main_arg0))) (m (c.tc.loc main_arg1)) := by
  refine (dats m 0 c).arrAt_eq_of_cover 2 _ (fun t _ => ?_) fun i => ⟨⟨0, by decide⟩, flush0_2 _, by
    have h := ((cfg0.win 2).blk (⟨0, by decide⟩ : Fin cfg0.N)).view.emb_mem_set i; rwa [emb2] at h⟩
  show (cfg0.win 2).cut (grid0.coords t) ((dats m 0 c).after 2 t) = _
  rw [after0_2, iblk0_eq, iblk1_eq, out2_eq]
  funext j
  show outRows _ _ j = outRows _ _ (((cfg0.win 2).blk t).view.emb j)
  rw [emb2]
theorem final3 (c : Dev nD) : (dats m 0 c).arrAt 3 cfg0.N = idxRow (rows (m (c.tc.loc main_arg0))) (m (c.tc.loc main_arg1)) := by
  refine (dats m 0 c).arrAt_eq_of_cover 3 _ (fun t _ => ?_) fun i => ⟨⟨0, by decide⟩, flush0_3 _, by
    have h := ((cfg0.win 3).blk (⟨0, by decide⟩ : Fin cfg0.N)).view.emb_mem_set i; rwa [emb3] at h⟩
  show (cfg0.win 3).cut (grid0.coords t) ((dats m 0 c).after 3 t) = _
  rw [after0_3, iblk0_eq, iblk1_eq, out3_eq]
  funext j
  show idxRow _ _ j = idxRow _ _ (((cfg0.win 3).blk t).view.emb j)
  rw [emb3]
theorem final4 (c : Dev nD) : (dats m 0 c).arrAt 4 cfg0.N
    = ((fun _ => loss (sumSq (rows (m (c.tc.loc main_arg0))) (m (c.tc.loc main_arg1)))) : Vec Ideal S1x1 .f32) := by
  refine (dats m 0 c).arrAt_eq_of_cover 4 _ (fun t _ => ?_) fun i => ⟨⟨0, by decide⟩, flush0_4 _, by
    have h := ((cfg0.win 4).blk (⟨0, by decide⟩ : Fin cfg0.N)).view.emb_mem_set i; rwa [emb4] at h⟩
  show (cfg0.win 4).cut (grid0.coords t) ((dats m 0 c).after 4 t) = _
  rw [after0_4, iblk0_eq, iblk1_eq, out4_eq]
  rfl

/-- The region's exit contents. -/
abbrev W (c : Dev nD) : Valuation τ sig (Elt Ideal) :=
  Pipeline.withArrays cfg0.spec c (V0 m c) fun w => (dats m 0 c).arrAt w cfg0.N

theorem arr_inj : Function.Injective (Pipeline.arrRef spec0) := by decide

theorem W2 (c : Dev nD) : W m c (Proc.devRef .tc main_v2_0) = outRows (rows (m (c.tc.loc main_arg0))) (m (c.tc.loc main_arg1)) :=
  (Pipeline.withArrays_arr spec0 arr_inj c (V0 m c) _ 2).trans (final2 m c)
theorem W3 (c : Dev nD) : W m c (Proc.devRef .tc main_v2_1) = idxRow (rows (m (c.tc.loc main_arg0))) (m (c.tc.loc main_arg1)) :=
  (Pipeline.withArrays_arr spec0 arr_inj c (V0 m c) _ 3).trans (final3 m c)
theorem W4 (c : Dev nD) : W m c (Proc.devRef .tc main_v2_2)
    = ((fun _ => loss (sumSq (rows (m (c.tc.loc main_arg0))) (m (c.tc.loc main_arg1)))) : Vec Ideal S1x1 .f32) :=
  (Pipeline.withArrays_arr spec0 arr_inj c (V0 m c) _ 4).trans (final4 m c)

/-- The results' arrays after the operations that follow the region. -/
theorem tail4 (c : Dev nD) : Pipeline.afterTail₀ cfgs (dats m) 0 (V0 m) [hostOps1] c main_v4
    = res0 (m (c.tc.loc main_arg0)) (m (c.tc.loc main_arg1)) := by
  show StableHlo.after hostOps1 (W m c) (Proc.devRef .tc main_v4) = _
  unfold res0
  rw [← W2 m c]
  generalize W m c = U
  unfold hostOps1
  after_results
  rfl
theorem tail5 (c : Dev nD) : Pipeline.afterTail₀ cfgs (dats m) 0 (V0 m) [hostOps1] c main_v5
    = res1 (m (c.tc.loc main_arg0)) (m (c.tc.loc main_arg1)) := by
  show StableHlo.after hostOps1 (W m c) (Proc.devRef .tc main_v5) = _
  unfold res1
  rw [← W3 m c]
  generalize W m c = U
  unfold hostOps1
  after_results
  rfl
theorem tail6 (c : Dev nD) : Pipeline.afterTail₀ cfgs (dats m) 0 (V0 m) [hostOps1] c main_v6
    = res2 (m (c.tc.loc main_arg0)) (m (c.tc.loc main_arg1)) := by
  show StableHlo.after hostOps1 (W m c) (Proc.devRef .tc main_v6) = _
  have h := W4 m c
  generalize W m c = U at h ⊢
  unfold hostOps1
  after_results
  rw [h]
  rfl

/-- THE KERNEL'S RUN: the three results are `res0`, `res1`, `res2` of the arguments, which end as they were. -/
theorem run : θ_run defs (onTc (τ := τ) (main (F := Ideal))) ⟨m, fun _ => 0, ρ⟩ fun r => ∀ c : Dev nD,
      r.2.mem (c.tc.loc main_v4) = res0 (m (c.tc.loc main_arg0)) (m (c.tc.loc main_arg1))
      ∧ r.2.mem (c.tc.loc main_v5) = res1 (m (c.tc.loc main_arg0)) (m (c.tc.loc main_arg1))
      ∧ r.2.mem (c.tc.loc main_v6) = res2 (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c =>
    ⟨((h.1 c).2 main_v4 (by decide)).trans (tail4 m c), ((h.1 c).2 main_v5 (by decide)).trans (tail5 m c),
      ((h.1 c).2 main_v6 (by decide)).trans (tail6 m c), (h.2 c).1, (h.2 c).2⟩)
    (θ_run_and (run_main m ρ) (unchanged m ρ))

end Cert.VQ
-- ==== Proof.Ref.lean ====
/-
  The reference's run, and its three results as functions of the two arguments.
-/
module

public import proofs.«01_k».proof.Proof.Nearest
public import proofs.«01_k».proof.Proof.Gen.ReferenceIdeal
public import Idealize.ShloMosaic.Lib.Claim
public import Idealize.ShloMosaic.Lib.Pointwise
public import Idealize.ShloMosaic.Lib.ReduceAll

@[expose] public section

set_option maxRecDepth 16384

noncomputable section

namespace Cert.VQ.Ref

open Idealize.ShloMosaic Idealize.SL.Sem Cert.ReferenceIdeal Cert.ReferenceIdeal.Gen

variable (z : FVec Ideal S8x256x24x24 .f32) (y : FVec Ideal S1024x256 .f32)

/-- The array of rows: the first argument's channels moved last, its places in one line. -/
def rows : FVec Ideal S4608x256 .f32 :=
  shapeCast S4608x256 (transpose S8x24x24x256 [0, 2, 3, 1] z transposes_S8x256x24x24_S8x24x24x256_0_2_3_1)
    shapeCasts_S8x24x24x256_S4608x256

/-- The reference's distances of every row from every code. -/
def dist : FVec Ideal S4608x1024 .f32 :=
  addf
    (subf
      (broadcastInDim S4608x1024 ![0, 1] bcast_S4608x1_S4608x1024_0_1 (broadcastInDim S4608x1 ![0] bcast_S4608_S4608x1_0
        (Host.reduceAdd (mulf (rows z) (rows z)) (constant S_ .f32 0x00000000#32) reducesTo_S4608x256_S4608_d1 h_S_)))
      (Host.dotGeneral dot_S4608x256_S256x1024_S4608x1024_1_0_0_1_n_n none
        (mulf (broadcastInDim S4608x256 ![] bcast_S_S4608x256 (constant S_ .f32 0x40000000#32)) (rows z))
        (transpose S256x1024 [1, 0] y transposes_S1024x256_S256x1024_1_0)))
    (broadcastInDim S4608x1024 ![0, 1] bcast_S1x1024_S4608x1024_0_1 (broadcastInDim S1x1024 ![1] bcast_S1024_S1x1024_1
      (Host.reduceAdd (mulf y y) (constant S_ .f32 0x00000000#32) reducesTo_S1024x256_S1024_d1 h_S_)))

/-- The word of the first least distance's number, in each row. -/
def index : IVec S4608 32 := fun j =>
  (Host.argReduce (reducer_argmin_f32_i32 (F := Ideal)) (dist z y) (iotaInDim S4608x1024 32 1) (constant S_ .f32 0x7F800000#32)
    (constantI S_ 32 0#32) reducesTo_S4608x1024_S4608_d1 h_S_ j).2

theorem index_eq : index z y = fun j : S4608.Idx => BitVec.ofNat 32 (first fun k => dist z y (ix2 (j 0) k)).val := by
  delta index
  funext j
  obtain ⟨t, rfl⟩ : ∃ t : Fin 4608, j = ix1 t := ⟨j 0, eq_ix1 j⟩
  exact argReduce_row _ _ _ rfl rfl _ _ t

/-- The row numbers the look-up reads: a negative one counts from the end. -/
def start (i : IVec S4608 32) : IVec S4608x1 32 :=
  broadcastInDim S4608x1 ![0] bcast_S4608_S4608x1_0
    (select (cmpi .slt i (broadcastInDim S4608 ![] bcast_S_S4608 (constantI S_ 32 0#32)))
      (addi i (broadcastInDim S4608 ![] bcast_S_S4608 (constantI S_ 32 1024#32))) i)

/-- The look-up of rows of the codes; a row out of range would be filled with a constant. -/
def look (i : IVec S4608 32) : FVec Ideal S4608x256 .f32 :=
  select
    (broadcastInDim S4608x256 ![0] bcast_S4608_S4608x256_0
      (Host.reduce IntOp.andi
        (andi (cmpi .sge (start i) (broadcastInDim S4608x1 ![] bcast_S_S4608x1 (constantI S_ 32 0#32)))
          (cmpi .sle (start i) (broadcastInDim S4608x1 ![0, 1] bcast_S1x1_S4608x1_0_1
            (broadcastInDim S1x1 ![1] bcast_S1_S1x1_1 (constantI S1 32 1023#32)))))
        (constantI S_ 1 1#1) reducesTo_S4608x1_S4608_d1 h_S_))
    (Host.gather gather_S1024x256_S4608x1_S4608x256_1_0_n_n_0_1_1256 y (start i))
    (broadcastInDim S4608x256 ![] bcast_S_S4608x256 (constant S_ .f32 0x7FC00000#32))

/-- The nearest codes, in the first argument's layout. -/
def code : FVec Ideal S8x256x24x24 .f32 :=
  transpose S8x256x24x24 [0, 3, 1, 2] (shapeCast S8x24x24x256 (look y (index z y)) shapeCasts_S4608x256_S8x24x24x256)
    transposes_S8x24x24x256_S8x256x24x24_0_3_1_2

/-- The mean of the squared differences. -/
def mean : FVec Ideal S_ .f32 :=
  Host.divf (Host.reduceAdd (mulf (subf (code z y) z) (subf (code z y) z)) (constant S_ .f32 0x00000000#32)
    reducesTo_S8x256x24x24_S_d0_1_2_3 h_S_) (constant S_ .f32 0x49900000#32)

/-- The reference's first and third result (the second is `index`). -/
def res0 : FVec Ideal S8x256x24x24 .f32 := addf z (subf (code z y) z)
def res2 : FVec Ideal S_ .f32 := addf (mulf (constant S_ .f32 0x3E800000#32) (mean z y)) (mean z y)

/-- THE REFERENCE'S RUN: its three results are `res0`, `index`, `res2` of the arguments, which end as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v31) = res0 (m (c.tc.loc main_arg0)) (m (c.tc.loc main_arg1))
      ∧ r.2.mem (c.tc.loc main_v16) = index (m (c.tc.loc main_arg0)) (m (c.tc.loc main_arg1))
      ∧ r.2.mem (c.tc.loc main_v29) = res2 (m (c.tc.loc main_arg0)) (m (c.tc.loc main_arg1))
      ∧ r.2.mem (c.tc.loc main_arg0) = m (c.tc.loc main_arg0)
      ∧ r.2.mem (c.tc.loc main_arg1) = m (c.tc.loc main_arg1) := by
  hlo_run
  all_goals simp only [StableHlo.TRef.ofBuf_toBuf]
  all_goals rfl

end Cert.VQ.Ref
-- ==== Proof.Finite.lean ====
/-
  What the precondition gives: every element of both arguments is a real number. Over real arguments the kernel's and
  the reference's distances are equal.
-/
module

public import proofs.«01_k».proof.Proof.Run
public import proofs.«01_k».proof.Proof.Ref
public import proofs.«01_k».proof.Proof.Gen.Pre_no_tie

@[expose] public section

set_option maxRecDepth 16384

noncomputable section

namespace Cert.VQ

open Idealize.ShloMosaic

/-- A number whose absolute value is below infinity is real. -/
theorem real_of_lt (a : EReal) (h : FloatOps.cmpf (F := Ideal) (φ := .f32) .olt (FloatOps.absf a : Ideal .f32) (Ideal.ofBits .f32 0x7F800000#32) = 1#1) :
    ∃ r : ℝ, a = r := by
  have ht : Ideal.ofBits .f32 0x7F800000#32 = (⊤ : EReal) := by simp [Ideal.ofBits, Ideal.ieee]
  rw [ht] at h
  have h' : max a (-a) < ⊤ := by
    by_contra hn
    have : Ideal.cmp .olt (max a (-a)) (⊤ : EReal) = 1#1 := h
    simp [Ideal.cmp, hn] at this
  induction a with
  | bot => simp at h'
  | top => simp at h'
  | coe r => exact ⟨r, rfl⟩

instance : Subsingleton KernelIdeal.S_.Idx := ⟨fun a b => funext fun k => k.elim0⟩

/-- The precondition makes every element of both arguments real. -/
theorem real_of_pre (z : FVec Ideal KernelIdeal.S8x256x24x24 .f32) (y : FVec Ideal KernelIdeal.S1024x256 .f32)
    (h : Pre_no_tie.fn (F := Ideal) z y = fun _ => 1#1) : (∀ i, ∃ r : ℝ, z i = r) ∧ ∀ i, ∃ r : ℝ, y i = r := by
  have h0 := congrFun h ix0
  unfold Pre_no_tie.fn Pre_no_tie.fn_part1 at h0
  have h1 := (IntOp.andi_eq_one.1 h0).1
  obtain ⟨hz, hy⟩ := IntOp.andi_eq_one.1 h1
  refine ⟨fun i => ?_, fun i => ?_⟩
  · have := Host.reduce_andi_all _ _ _ _ _ hz i
    exact real_of_lt _ this
  · exact real_of_lt _ (Host.reduce_andi_all _ _ _ _ _ hy i)

/-- The kernel's and the reference's form of one distance. -/
theorem dist_eq (a c : Fin 256 → EReal) (ha : ∀ j, ∃ r : ℝ, a j = r) (hc : ∀ j, ∃ r : ℝ, c j = r) :
    (∑ j, a j * a j) + (∑ j, a j * (c j * Ideal.ofBits .f32 0xC0000000#32))
      = (∑ j, a j * a j) - ∑ j, Ideal.ofBits .f32 0x40000000#32 * a j * c j := by
  choose a' ha' using ha
  choose c' hc' using hc
  have h2 : Ideal.ofBits .f32 0x40000000#32 = ((2 : ℝ) : EReal) := by
    simp [Ideal.ofBits, Ideal.ieee, -EReal.coe_mul]; norm_num
  have h3 : Ideal.ofBits .f32 0xC0000000#32 = ((-2 : ℝ) : EReal) := by
    simp [Ideal.ofBits, Ideal.ieee, -EReal.coe_mul]; norm_num
  have hs : ∀ f : Fin 256 → ℝ, (∑ j, ((f j : ℝ) : EReal)) = ((∑ j, f j : ℝ) : EReal) := fun f =>
    (map_sum (⟨⟨Real.toEReal, EReal.coe_zero⟩, EReal.coe_add⟩ : ℝ →+ EReal) f Finset.univ).symm
  simp only [ha', hc', h2, h3, ← EReal.coe_mul, hs, ← EReal.coe_add, ← EReal.coe_sub]
  congr 1
  rw [sub_eq_add_neg, ← Finset.sum_neg_distrib]
  congr 1
  exact Finset.sum_congr rfl fun j _ => by ring

/-- One of the reference's distances. -/
theorem dist_apply (z : FVec Ideal ReferenceIdeal.S8x256x24x24 .f32) (y : FVec Ideal ReferenceIdeal.S1024x256 .f32) (t : Fin 4608)
    (k : Fin 1024) :
    Ref.dist z y (ix2 t k) = ((∑ j : Fin 256, Ref.rows z (ix2 t j) * Ref.rows z (ix2 t j))
      - ∑ j : Fin 256, Ideal.ofBits .f32 0x40000000#32 * Ref.rows z (ix2 t j) * y (ix2 k j))
      + ∑ j : Fin 256, y (ix2 k j) * y (ix2 k j) := by
  pointwise [Ref.dist]

theorem rows_eq (z : FVec Ideal KernelIdeal.S8x256x24x24 .f32) : Ref.rows z = rows z := rfl

/-- The array of rows, one place of it. -/
theorem rows_apply (z : FVec Ideal KernelIdeal.S8x256x24x24 .f32) (t : Fin 4608) (j : Fin 256) :
    rows z (ix2 t j) = z (ix4 ⟨t.val / 576, by omega⟩ j ⟨t.val / 24 % 24, by omega⟩ ⟨t.val % 24, by omega⟩) := by
  pointwise [rows]

theorem near_eq (z : FVec Ideal KernelIdeal.S8x256x24x24 .f32) (y : FVec Ideal KernelIdeal.S1024x256 .f32)
    (h : Pre_no_tie.fn (F := Ideal) z y = fun _ => 1#1) (t : Fin 4608) :
    (first fun k => Ref.dist z y (ix2 t k)) = near (row (rows z) t) y := by
  obtain ⟨hz, hy⟩ := real_of_pre z y h
  unfold near
  congr 1
  funext k
  rw [dist_apply]
  exact congrArg (· + _) (dist_eq (row (rows z) t) (fun j => y (ix2 k j)) (fun j => hz _) (fun j => hy _)).symm

/-- The reference's indices are the words of the numbers of the nearest codes. -/
theorem ref_index_apply (z : FVec Ideal KernelIdeal.S8x256x24x24 .f32) (y : FVec Ideal KernelIdeal.S1024x256 .f32)
    (h : Pre_no_tie.fn (F := Ideal) z y = fun _ => 1#1) (t : Fin 4608) :
    Ref.index z y (ix1 t) = BitVec.ofNat 32 (near (row (rows z) t) y).val := by
  rw [← near_eq z y h, Ref.index_eq]
  rfl

end Cert.VQ
-- ==== Proof.Look.lean ====
/-
  The reference's look-up: at row numbers in range it reads those rows of the codes.
-/
module

public import proofs.«01_k».proof.Proof.Ref

@[expose] public section

set_option maxRecDepth 16384

noncomputable section

namespace Cert.VQ.Ref

open Idealize.ShloMosaic Cert.ReferenceIdeal Cert.ReferenceIdeal.Gen

/-- A code's number is not negative, so the look-up leaves it, and it is in range. -/
theorem wrap_word : ∀ k : Fin 1024,
    Scalar.select (IntOp.cmpi .slt (BitVec.ofNat 32 k.val) 0#32) (IntOp.addi (BitVec.ofNat 32 k.val) 1024#32) (BitVec.ofNat 32 k.val)
      = BitVec.ofNat 32 k.val := by decide +kernel
theorem range_word : ∀ k : Fin 1024,
    IntOp.andi (IntOp.cmpi .sge (BitVec.ofNat 32 k.val) 0#32) (IntOp.cmpi .sle (BitVec.ofNat 32 k.val) 1023#32) = 1#1 := by
  decide +kernel
theorem toNat_word : ∀ k : Fin 1024, min (BitVec.ofNat 32 k.val).toInt.toNat 1023 = k.val := by decide +kernel

variable (y : FVec Ideal S1024x256 .f32) (i : IVec S4608 32) (k : Fin 4608 → Fin 1024)

theorem start_apply (hi : ∀ t, i (ix1 t) = BitVec.ofNat 32 (k t).val) (t : Fin 4608) (a : Fin 1) :
    start i (ix2 t a) = BitVec.ofNat 32 (k t).val := by
  pointwise [start]
  rw [hi]
  exact wrap_word (k t)

/-- The gather of whole rows, at a row number in range. -/
theorem gather_apply (s : IVec S4608x1 32) (t : Fin 4608) (n : Fin 1024) (hs : s (ix2 t 0) = BitVec.ofNat 32 n.val) (j : Fin 256) :
    Host.gather gather_S1024x256_S4608x1_S4608x256_1_0_n_n_0_1_1256 y s (ix2 t j) = y (ix2 n j) := by
  have hm0 : (0 : Fin S1024x256.rank) ∈ gather_S1024x256_S4608x1_S4608x256_1_0_n_n_0_1_1256.startIndexMap := List.mem_singleton.mpr rfl
  have hm1 : (1 : Fin S1024x256.rank) ∉ gather_S1024x256_S4608x1_S4608x256_1_0_n_n_0_1_1256.startIndexMap := by
    show (1 : Fin S1024x256.rank) ∉ [(0 : Fin S1024x256.rank)]; decide
  have hk0 : (0 : Fin S1024x256.rank) ∉ gather_S1024x256_S4608x1_S4608x256_1_0_n_n_0_1_1256.sKept := fun h =>
    ((GatherDims.mem_sKept _ _).mp h).1 (List.mem_singleton.mpr rfl)
  have hb : ∀ a, a ∉ gather_S1024x256_S4608x1_S4608x256_1_0_n_n_0_1_1256.operandBatchingDims := fun _ h => nomatch h
  have hk1 : (1 : Fin S1024x256.rank) ∈ gather_S1024x256_S4608x1_S4608x256_1_0_n_n_0_1_1256.sKept :=
    (GatherDims.mem_sKept _ _).mpr ⟨hm1, hb _⟩
  have hsi : gather_S1024x256_S4608x1_S4608x256_1_0_n_n_0_1_1256.siIdx (ix2 t j)
      ⟨List.idxOf (0 : Fin S1024x256.rank) gather_S1024x256_S4608x1_S4608x256_1_0_n_n_0_1_1256.startIndexMap, List.idxOf_lt_length_iff.2 hm0⟩
      = ix2 t 0 := by
    funext b
    match b with
    | ⟨0, _⟩ => rfl
    | ⟨1, _⟩ => rfl
  unfold Host.gather
  congr 1
  funext a
  refine Fin.ext ?_
  show GatherDims.start _ (ix2 t j) s a + GatherDims.batchCoord _ (ix2 t j) a + GatherDims.offCoord _ (ix2 t j) a = _
  rw [GatherDims.batchCoord_eq_zero _ _ _ (hb a), Nat.add_zero]
  obtain rfl | rfl : a = (0 : Fin S1024x256.rank) ∨ a = (1 : Fin S1024x256.rank) := by
    match a with
    | ⟨0, _⟩ => exact Or.inl rfl
    | ⟨1, _⟩ => exact Or.inr rfl
  · rw [GatherDims.offCoord_eq_zero _ _ _ hk0, Nat.add_zero]
    unfold GatherDims.start
    rw [dif_pos hm0, hsi, hs]
    exact toNat_word n
  · unfold GatherDims.start GatherDims.offCoord
    rw [dif_neg hm1, dif_pos hk1, Nat.zero_add]
    rfl

/-- The look-up at the words of codes' numbers. -/
theorem look_apply (hi : ∀ t, i (ix1 t) = BitVec.ofNat 32 (k t).val) (t : Fin 4608) (j : Fin 256) :
    look y i (ix2 t j) = y (ix2 (k t) j) := by
  have hr : ∀ q, Host.reduce IntOp.andi
        (andi (cmpi .sge (start i) (broadcastInDim S4608x1 ![] bcast_S_S4608x1 (constantI S_ 32 0#32)))
          (cmpi .sle (start i) (broadcastInDim S4608x1 ![0, 1] bcast_S1x1_S4608x1_0_1
            (broadcastInDim S1x1 ![1] bcast_S1_S1x1_1 (constantI S1 32 1023#32)))))
        (constantI S_ 1 1#1) reducesTo_S4608x1_S4608_d1 h_S_ q = 1#1 := by
    intro q
    refine Host.reduce_andi_one _ _ _ _ _ rfl fun p => ?_
    obtain ⟨a, b, rfl⟩ : ∃ (a : Fin 4608) (b : Fin 1), p = ix2 a b := ⟨p 0, p 1, eq_ix2 p⟩
    pointwise
    rw [start_apply i k hi]
    exact range_word (k a)
  unfold look
  generalize Host.reduce IntOp.andi _ _ _ _ = m at hr ⊢
  generalize hg : Host.gather _ _ _ = g
  have h1 : m = fun _ => 1#1 := funext hr
  subst h1
  pointwise
  rw [← hg]
  exact gather_apply y _ t (k t) (start_apply i k hi t 0) j

end Cert.VQ.Ref
-- ==== Proof.Join.lean ====
/-
  The kernel's three results are the reference's, on arguments that meet the precondition.
-/
module

public import proofs.«01_k».proof.Proof.Finite
public import proofs.«01_k».proof.Proof.Look

@[expose] public section

set_option maxRecDepth 16384

noncomputable section

namespace Cert.VQ

open Idealize.ShloMosaic Cert.KernelIdeal Cert.KernelIdeal.Gen

/-- The row of image `a`'s place `(h, w)`. -/
def spot (a : Fin 8) (h w : Fin 24) : Fin 4608 := ⟨a.val * 576 + h.val * 24 + w.val, by omega⟩

theorem rows_spot (z : FVec Ideal S8x256x24x24 .f32) (a : Fin 8) (j : Fin 256) (h w : Fin 24) :
    rows z (ix2 (spot a h w) j) = z (ix4 a j h w) := by
  rw [rows_apply]
  have e1 : (⟨(spot a h w).val / 576, by omega⟩ : Fin 8) = a := Fin.ext (by simp only [spot]; omega)
  have e2 : (⟨(spot a h w).val / 24 % 24, by omega⟩ : Fin 24) = h := Fin.ext (by simp only [spot]; omega)
  have e3 : (⟨(spot a h w).val % 24, by omega⟩ : Fin 24) = w := Fin.ext (by simp only [spot]; omega)
  rw [e1, e2, e3]

/-- Rows put back into the first argument's layout, one place of them. -/
theorem back_apply (v : FVec Ideal S4608x256 .f32) (a : Fin 8) (j : Fin 256) (h w : Fin 24) :
    transpose S8x256x24x24 [0, 3, 1, 2] (shapeCast S8x24x24x256 v shapeCasts_S4608x256_S8x24x24x256)
      transposes_S8x24x24x256_S8x256x24x24_0_3_1_2 (ix4 a j h w) = v (ix2 (spot a h w) j) := by
  pointwise
  refine congrArg v ?_
  funext b
  apply Fin.ext
  match b with
  | ⟨0, _⟩ => simp [spot]; try omega
  | ⟨1, _⟩ => simp; try omega

variable (z : FVec Ideal S8x256x24x24 .f32) (y : FVec Ideal S1024x256 .f32) (hp : Pre_no_tie.fn (F := Ideal) z y = fun _ => 1#1)
include hp

/-- The reference's nearest codes in the first argument's layout, one place of them. -/
theorem code_apply (a : Fin 8) (j : Fin 256) (h w : Fin 24) :
    Ref.code z y (ix4 a j h w) = y (ix2 (near (row (rows z) (spot a h w)) y) j) :=
  (back_apply _ a j h w).trans
    (Ref.look_apply y (Ref.index z y) (fun t => near (row (rows z) t) y) (ref_index_apply z y hp) (spot a h w) j)

/-- The reference's difference at a place is the kernel's at its row. -/
theorem sub_apply (a : Fin 8) (j : Fin 256) (h w : Fin 24) :
    subf (Ref.code z y) z (ix4 a j h w) = dif (rows z) y (spot a h w) j := by
  show Ref.code z y (ix4 a j h w) - z (ix4 a j h w) = _
  rw [code_apply z y hp, ← rows_spot z a j h w]
  rfl

/-- The first results are equal. -/
theorem join0 : Ref.res0 z y = res0 z y := by
  funext i
  obtain ⟨a, j, h, w, rfl⟩ : ∃ (a : Fin 8) (j : Fin 256) (h w : Fin 24), i = ix4 a j h w := ⟨i 0, i 1, i 2, i 3, eq_ix4 i⟩
  refine Eq.trans ?_ (back_apply (outRows (rows z) y) a j h w).symm
  show z (ix4 a j h w) + subf (Ref.code z y) z (ix4 a j h w) = _
  rw [sub_apply z y hp, ← rows_spot z a j h w]
  rfl

/-- The second results are equal. -/
theorem join1 : Ref.index z y = res1 z y := by
  funext i
  obtain ⟨t, rfl⟩ : ∃ t : Fin 4608, i = ix1 t := ⟨i 0, eq_ix1 i⟩
  rw [ref_index_apply z y hp]
  pointwise [res1]
  rfl

omit hp in
/-- A row's number, split into its image's and its place there. -/
def spotEquiv : Fin 8 × Fin 24 × Fin 24 ≃ Fin 4608 where
  toFun p := spot p.1 p.2.1 p.2.2
  invFun t := (⟨t.val / 576, by omega⟩, ⟨t.val / 24 % 24, by omega⟩, ⟨t.val % 24, by omega⟩)
  left_inv p := by
    obtain ⟨a, h, w⟩ := p
    refine Prod.ext (Fin.ext ?_) (Prod.ext (Fin.ext ?_) (Fin.ext ?_))
    · show (a.val * 576 + h.val * 24 + w.val) / 576 = a.val; omega
    · show (a.val * 576 + h.val * 24 + w.val) / 24 % 24 = h.val; omega
    · show (a.val * 576 + h.val * 24 + w.val) % 24 = w.val; omega
  right_inv t := Fin.ext (by show t.val / 576 * 576 + t.val / 24 % 24 * 24 + t.val % 24 = t.val; omega)

omit hp in
/-- A sum over the places of the first argument's layout is the sum over the rows. -/
theorem sum_spot (f : Fin 4608 → Fin 256 → EReal) :
    (∑ a : Fin 8, ∑ j : Fin 256, ∑ h : Fin 24, ∑ w : Fin 24, f (spot a h w) j) = ∑ t : Fin 4608, ∑ j : Fin 256, f t j := by
  rw [← Equiv.sum_comp spotEquiv (fun t => ∑ j : Fin 256, f t j), Fintype.sum_prod_type]
  refine Finset.sum_congr rfl fun a _ => ?_
  rw [Fintype.sum_prod_type, Finset.sum_comm]
  refine Finset.sum_congr rfl fun h _ => ?_
  rw [Finset.sum_comm]
  rfl

/-- The third results are equal. -/
theorem join2 : Ref.res2 z y = res2 z y := by
  have hs : ∀ i, Host.reduceAdd (mulf (subf (Ref.code z y) z) (subf (Ref.code z y) z)) (constant S_ .f32 0x00000000#32)
      ReferenceIdeal.Gen.reducesTo_S8x256x24x24_S_d0_1_2_3 ReferenceIdeal.Gen.h_S_ i = sumSq (rows z) y := by
    intro i
    obtain rfl := Subsingleton.elim i ix0
    unfold sumSq
    rw [← sum_spot]
    simp only [← sub_apply z y hp]
    generalize subf (Ref.code z y) z = d
    pointwise
    rw [Ideal.hostReduceAdd_total _ (fun b => b.elim0), zero_add, sum_idx4]
    rfl
  funext i
  show Ideal.ofBits .f32 0x3E800000#32 * Ref.mean z y i + Ref.mean z y i = loss (sumSq (rows z) y)
  have hm : Ref.mean z y i = Ideal.div (sumSq (rows z) y) (Ideal.ofBits .f32 0x49900000#32) :=
    congrArg (Ideal.div · _) (hs i)
  rw [hm]
  rfl

end Cert.VQ
-- ==== Proof.lean ====
/-
  The proof of every claim the statement states: both kernel programs and the reference run to an end and leave their
  arguments as they were; idealizing the kernel keeps its meaning; and, on finite arguments with no tied nearest code,
  the idealized kernel and the reference end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_tie
public import proofs.«01_k».proof.Proof.Join
public import Idealize.ShloMosaic.Lib.Claim
public import Idealize.ShloMosaic.Lib.StableHlo.RunHlo
public import Idealize.ShloMosaic.Adequacy
public import Idealize.ShloMosaic.Init

@[expose] public section

noncomputable section

namespace Cert.Proof

open Idealize.ShloMosaic Idealize.SL.Sem Cert.Kernel

/-- On arguments that meet the precondition the kernel and the reference end with the same three results. -/
theorem algebraic : Cert.algebraic_KernelIdeal_ReferenceIdeal := by
  intro m g m' g' hpre hagree
  refine ⟨fun c => Cert.VQ.res0 (m (c.tc.loc Cert.KernelIdeal.main_arg0)) (m (c.tc.loc Cert.KernelIdeal.main_arg1)),
    fun c => Cert.VQ.res1 (m (c.tc.loc Cert.KernelIdeal.main_arg0)) (m (c.tc.loc Cert.KernelIdeal.main_arg1)),
    fun c => Cert.VQ.res2 (m (c.tc.loc Cert.KernelIdeal.main_arg0)) (m (c.tc.loc Cert.KernelIdeal.main_arg1)),
    Cert.VQ.run m g, ?_⟩
  refine θ_run_mono (Cert.VQ.Ref.run m' g') fun r hr c => ?_
  obtain ⟨h0, h1, h2, ha, hb⟩ := hr c
  obtain ⟨e0, e1⟩ := hagree c
  rw [e0, e1] at h0 h1 h2
  exact ⟨h0.trans (Cert.VQ.join0 _ _ (hpre c)), h1.trans (Cert.VQ.join1 _ _ (hpre c)), h2.trans (Cert.VQ.join2 _ _ (hpre c)), ha, hb⟩

/-- The reference runs to an end with its arguments as they were. -/
theorem frame_R : Cert.quiescent_ReferenceIdeal := by
  intro m g h
  refine θ_run_mono (Q := fun r => ∀ c : Dev Cert.ReferenceIdeal.nD,
    r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
        = m ((c.tc : Thread Cert.ReferenceIdeal.nD Cert.ReferenceIdeal.τ).loc Cert.ReferenceIdeal.main_arg1)) ?_
    fun r hr => ⟨hr, sem_eq_zero_of_no_sems (by decide) r.2⟩
  hlo_run

/-- Every claim, with the programs' stated facts. -/
theorem claim : Cert.Claim := ⟨Cert.Kernel.Gen.facts, Cert.KernelIdeal.Gen.facts, Cert.ReferenceIdeal.Gen.facts, Cert.Pre_no_tie.Gen.facts,
  fun m g _ => Cert.Kernel.Gen.frame m g, fun m g _ => Cert.Kernel.Gen.frame m g, fun m g _ => Cert.KernelIdeal.Gen.frame m g,
  frame_R, fun m g _ => frame_R m g trivial, trivial, algebraic⟩

end Cert.Proof

end
